-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S32768x512 : Shape := ⟨2, ![32768, 512]⟩
abbrev S32768 : Shape := ⟨1, ![32768]⟩
abbrev S512x128 : Shape := ⟨2, ![512, 128]⟩
abbrev S512 : Shape := ⟨1, ![512]⟩
abbrev S32768x128 : Shape := ⟨2, ![32768, 128]⟩
abbrev S_ : Shape := ⟨0, ![]⟩

class Facts : Prop where
  reducesTo_S32768x128_S32768_d1 : S32768x128.ReducesTo [1] S32768
  h_S_ : 0 < S_.numel
  bcast_S_S32768 : S_.BroadcastsInDim S32768 (![] : Fin 0 → Fin S32768.rank)
  dot_S32768x512_S512x128_S32768x128_1_0_0_1_n_n_wf : DotDims.WF S32768x512 S512x128 S32768x128 [1] [0] [0] [1] [] []

variable [Facts]

def dot_S32768x512_S512x128_S32768x128_1_0_0_1_n_n : DotDims S32768x512 S512x128 S32768x128 where
  lhsContracting := [1]
  rhsContracting := [0]
  lhsNonContracting := [0]
  rhsNonContracting := [1]
  lhsBatch := []
  rhsBatch := []
  wf := dot_S32768x512_S512x128_S32768x128_1_0_0_1_n_n_wf
def fn {F : FTy → Type} [FloatOps F] (main_arg0 : FVec F S32768x512 .f32) (main_arg1 : IVec S32768 32) (main_arg2 : FVec F S512x128 .f32) (main_arg3 : FVec F S512x128 .f32) (main_arg4 : FVec F S512 .f32) : IVec S32768 1 :=
  let main_v0 : FVec F S32768x128 .f32 := (fun l r => Host.dotGeneral dot_S32768x512_S512x128_S32768x128_1_0_0_1_n_n none l r) main_arg0 main_arg2
  let main_v1 : FVec F S32768x128 .f32 := (fun l r => Host.dotGeneral dot_S32768x512_S512x128_S32768x128_1_0_0_1_n_n none l r) main_arg0 main_arg3
  let main_v2 : FVec F S32768x128 .f32 := mulf main_v0 main_v1
  let main_cst : FVec F S_ .f32 := constant S_ .f32 0x00000000#32
  let main_v3 : FVec F S32768 .f32 := (fun x v => Host.reduceAdd x v reducesTo_S32768x128_S32768_d1 h_S_) main_v2 main_cst
  let main_v4 : FVec F S32768 .f32 := Host.absf main_v3
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  main_v6
-- ==== Kernel.lean ====
abbrev S32768x512 : Shape := ⟨2, ![32768, 512]⟩
abbrev S32768 : Shape := ⟨1, ![32768]⟩
abbrev S512x128 : Shape := ⟨2, ![512, 128]⟩
abbrev S512 : Shape := ⟨1, ![512]⟩
abbrev S32768x1 : Shape := ⟨2, ![32768, 1]⟩
abbrev S512x256 : Shape := ⟨2, ![512, 256]⟩
abbrev S1x512 : Shape := ⟨2, ![1, 512]⟩
abbrev S16x512 : Shape := ⟨2, ![16, 512]⟩
abbrev S2048x1 : Shape := ⟨2, ![2048, 1]⟩
abbrev S2048x512 : Shape := ⟨2, ![2048, 512]⟩
abbrev S1x16 : Shape := ⟨2, ![1, 16]⟩
abbrev S2048x256 : Shape := ⟨2, ![2048, 256]⟩
abbrev S2048x128 : Shape := ⟨2, ![2048, 128]⟩
abbrev S2048 : Shape := ⟨1, ![2048]⟩
abbrev S2048x16 : Shape := ⟨2, ![2048, 16]⟩
abbrev S16 : Shape := ⟨1, ![16]⟩
abbrev S16x1 : Shape := ⟨2, ![16, 1]⟩

abbrev nBuf : Space → Nat
  | .hbm => 9
  | .vmem => 10
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S32768x1, .i32⟩
  | .hbm, ⟨6, _⟩ => ⟨S512x256, .f32⟩
  | .hbm, ⟨7, _⟩ => ⟨S1x512, .f32⟩
  | .hbm, ⟨8, _⟩ => ⟨S16x512, .f32⟩
  | .local _ .vmem, ⟨0, _⟩ => ⟨S2048x1, .i32⟩
  | .local _ .vmem, ⟨1, _⟩ => ⟨S2048x1, .i32⟩
  | .local _ .vmem, ⟨2, _⟩ => ⟨S2048x512, .f32⟩
  | .local _ .vmem, ⟨3, _⟩ => ⟨S2048x512, .f32⟩
  | .local _ .vmem, ⟨4, _⟩ => ⟨S512x256, .f32⟩
  | .local _ .vmem, ⟨5, _⟩ => ⟨S1x512, .f32⟩
  | .local _ .vmem, ⟨6, _⟩ => ⟨S16x512, .f32⟩
  | .local _ .vmem, ⟨7, _⟩ => ⟨S1x16, .f32⟩
  | .local _ .vmem, ⟨8, _⟩ => ⟨S1x16, .f32⟩
  | .local _ .vmem, ⟨9, _⟩ => ⟨S16x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v58 : BitVec 1 := Scalar.cmpi .eq arg0 c15_i32
  let v59 : BitVec 32 := Scalar.extui v58
  let c0_i32_27 : BitVec 32 := 0#32
  let v60 : BitVec 1 := Scalar.cmpi .ne v59 c0_i32_27
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S32768x512 : Shape := ⟨2, ![32768, 512]⟩
abbrev S32768 : Shape := ⟨1, ![32768]⟩
abbrev S512x128 : Shape := ⟨2, ![512, 128]⟩
abbrev S512 : Shape := ⟨1, ![512]⟩
abbrev S32768x128 : Shape := ⟨2, ![32768, 128]⟩
abbrev S_ : Shape := ⟨0, ![]⟩
abbrev S32768x1 : Shape := ⟨2, ![32768, 1]⟩
abbrev S16 : Shape := ⟨1, ![16]⟩
abbrev S1x16 : Shape := ⟨2, ![1, 16]⟩
abbrev S32768x16 : Shape := ⟨2, ![32768, 16]⟩
abbrev S1x512 : Shape := ⟨2, ![1, 512]⟩
abbrev S16x512 : Shape := ⟨2, ![16, 512]⟩

abbrev nBuf : Space → Nat
  | .hbm => 59
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S32768x128, .f32⟩
  | .hbm, ⟨6, _⟩ => ⟨S32768x128, .f32⟩
  | .hbm, ⟨7, _⟩ => ⟨S32768x128, .f32⟩
  | .hbm, ⟨8, _⟩ => ⟨S_, .f32⟩
  | .hbm, ⟨9, _⟩ => ⟨S32768, .f32⟩
  | .hbm, ⟨10, _⟩ => ⟨S32768x1, .i32⟩
  | .hbm, ⟨11, _⟩ => ⟨S16, .i32⟩
  | .hbm, ⟨12, _⟩ => ⟨S1x16, .i32⟩
  | .hbm, ⟨13, _⟩ => ⟨S32768x16, .i32⟩
  | .hbm, ⟨14, _⟩ => ⟨S32768x16, .i32⟩
  | .hbm, ⟨15, _⟩ => ⟨S32768x16, .i1⟩
  | .hbm, ⟨16, _⟩ => ⟨S32768x1, .f32⟩
  | .hbm, ⟨17, _⟩ => ⟨S_, .f32⟩
  | .hbm, ⟨18, _⟩ => ⟨S_, .f32⟩
  | .hbm, ⟨19, _⟩ => ⟨S32768x16, .f32⟩
  | .hbm, ⟨20, _⟩ => ⟨S32768x16, .f32⟩
  | .hbm, ⟨21, _⟩ => ⟨S32768x16, .f32⟩
  | .hbm, ⟨22, _⟩ => ⟨S_, .f32⟩
  | .hbm, ⟨23, _⟩ => ⟨S16, .f32⟩
  | .hbm, ⟨24, _⟩ => ⟨S_, .i32⟩
  | .hbm, ⟨25, _⟩ => ⟨S32768, .i32⟩
  | .hbm, ⟨26, _⟩ => ⟨S32768, .i1⟩
  | .hbm, ⟨27, _⟩ => ⟨S_, .i32⟩
  | .hbm, ⟨28, _⟩ => ⟨S32768, .i32⟩
  | .hbm, ⟨29, _⟩ => ⟨S32768, .i32⟩
  | .hbm, ⟨30, _⟩ => ⟨S32768, .i32⟩
  | .hbm, ⟨31, _⟩ => ⟨S32768x1, .i32⟩
  | .hbm, ⟨32, _⟩ => ⟨S32768, .f32⟩
  | .hbm, ⟨33, _⟩ => ⟨S32768, .f32⟩
  | .hbm, ⟨34, _⟩ => ⟨S32768, .f32⟩
  | .hbm, ⟨35, _⟩ => ⟨S_, .f32⟩
  | .hbm, ⟨36, _⟩ => ⟨S16, .f32⟩
  | .hbm, ⟨37, _⟩ => ⟨S32768x1, .i32⟩
  | .hbm, ⟨38, _⟩ => ⟨S16, .f32⟩
  | .hbm, ⟨39, _⟩ => ⟨S_, .i32⟩
  | .hbm, ⟨40, _⟩ => ⟨S32768, .i32⟩
  | .hbm, ⟨41, _⟩ => ⟨S32768, .i1⟩
  | .hbm, ⟨42, _⟩ => ⟨S_, .i32⟩
  | .hbm, ⟨43, _⟩ => ⟨S32768, .i32⟩
  | .hbm, ⟨44, _⟩ => ⟨S32768, .i32⟩
  | .hbm, ⟨45, _⟩ => ⟨S32768, .i32⟩
  | .hbm, ⟨46, _⟩ => ⟨S32768x1, .i32⟩
  | .hbm, ⟨47, _⟩ => ⟨S32768, .f32⟩
  | .hbm, ⟨48, _⟩ => ⟨S32768, .f32⟩
  | .hbm, ⟨49, _⟩ => ⟨S1x512, .f32⟩
  | .hbm, ⟨50, _⟩ => ⟨S32768x512, .f32⟩
  | .hbm, ⟨51, _⟩ => ⟨S32768x512, .f32⟩
  | .hbm, ⟨52, _⟩ => ⟨S32768x1, .f32⟩
  | .hbm, ⟨53, _⟩ => ⟨S32768x512, .f32⟩
  | .hbm, ⟨54, _⟩ => ⟨S32768x512, .f32⟩
  | .hbm, ⟨55, _⟩ => ⟨S_, .f32⟩
  | .hbm, ⟨56, _⟩ => ⟨S16x512, .f32⟩
  | .hbm, ⟨57, _⟩ => ⟨S32768x1, .i32⟩
  | .hbm, ⟨58, _⟩ => ⟨S16x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Proof.Softmax.lean ====
/- The mathematics of a softmax pooled one block at a time, over the extended reals: no program is mentioned here.
   A score is a real number, or `⊥` where the token does not belong to the segment. `weight a m` is the exponential
   of a score taken relative to the running maximum `m`, and `rescale m₀ m₁` is the factor that moves sums taken
   relative to `m₀` to sums taken relative to a later maximum `m₁`. -/
module

public import Idealize.ShloMosaic.PureOps.Ideal

@[expose] public section

noncomputable section

namespace Cert.Softmax

open Idealize.ShloMosaic

/-- The bits of minus infinity denote `⊥`. -/
theorem neg_inf : Ideal.ofBits .f32 0xFF800000#32 = ⊥ := by
  simp [Ideal.ofBits, Ideal.ieee]

/-- The bits of plus infinity denote `⊤`. -/
theorem pos_inf : Ideal.ofBits .f32 0x7F800000#32 = ⊤ := by
  simp [Ideal.ofBits, Ideal.ieee]

/-- The running maximum, read as `0` while no member of the segment has been seen. -/
def shift (m : EReal) : EReal := if m = ⊥ then 0 else m

/-- The exponential of a score relative to the running maximum. -/
def weight (a m : EReal) : EReal := Ideal.exp (a - shift m)

/-- The factor that carries sums relative to the maximum `m₀` over to the maximum `m₁`. -/
def rescale (m₀ m₁ : EReal) : EReal := if m₀ = ⊥ then 0 else Ideal.exp (m₀ - shift m₁)

/-! ## Weights and the factor -/

theorem shift_coe (r : ℝ) : shift (r : EReal) = r := if_neg (EReal.coe_ne_bot r)

theorem shift_real {m : EReal} (h : m ≠ ⊤) : ∃ r : ℝ, shift m = r := by
  induction m using EReal.rec with
  | bot => exact ⟨0, by simp [shift]⟩
  | coe r => exact ⟨r, shift_coe r⟩
  | top => exact absurd rfl h

/-- A token outside the segment has weight zero. -/
theorem weight_bot {m : EReal} (h : m ≠ ⊤) : weight ⊥ m = 0 := by
  obtain ⟨r, hr⟩ := shift_real h
  rw [weight, hr, EReal.bot_sub, Ideal.exp_bot]

theorem weight_coe (a r : ℝ) : weight (a : EReal) (r : EReal) = (Real.exp (a - r) : ℝ) := by
  rw [weight, shift_coe, ← EReal.coe_sub, Ideal.exp_coe]

theorem rescale_bot (m : EReal) : rescale ⊥ m = 0 := if_pos rfl

theorem rescale_coe (a r : ℝ) : rescale (a : EReal) (r : EReal) = (Real.exp (a - r) : ℝ) := by
  rw [rescale, if_neg (EReal.coe_ne_bot a), shift_coe, ← EReal.coe_sub, Ideal.exp_coe]

/-- The factor is a real number that is not negative. -/
theorem rescale_real {m₀ m₁ : EReal} (h₀ : m₀ ≠ ⊤) (h₁ : m₁ ≠ ⊤) (hle : m₀ ≤ m₁) :
    ∃ r : ℝ, 0 ≤ r ∧ rescale m₀ m₁ = r := by
  induction m₀ using EReal.rec with
  | bot => exact ⟨0, le_rfl, rescale_bot m₁⟩
  | top => exact absurd rfl h₀
  | coe a =>
    induction m₁ using EReal.rec with
    | bot => exact absurd (le_bot_iff.1 hle) (EReal.coe_ne_bot a)
    | top => exact absurd rfl h₁
    | coe b => exact ⟨_, (Real.exp_pos _).le, rescale_coe a b⟩

/-- Moving one weight to a later maximum. -/
theorem weight_rescale {a m₀ m₁ : EReal} (ha : a ≤ m₀) (h₀ : m₀ ≠ ⊤) (h₁ : m₁ ≠ ⊤) (hle : m₀ ≤ m₁) :
    weight a m₀ * rescale m₀ m₁ = weight a m₁ := by
  induction a using EReal.rec with
  | bot => rw [weight_bot h₀, weight_bot h₁, zero_mul]
  | top => exact absurd (top_le_iff.1 ha) h₀
  | coe a =>
    induction m₀ using EReal.rec with
    | bot => exact absurd (le_bot_iff.1 ha) (EReal.coe_ne_bot a)
    | top => exact absurd rfl h₀
    | coe b =>
      induction m₁ using EReal.rec with
      | bot => exact absurd (le_bot_iff.1 hle) (EReal.coe_ne_bot b)
      | top => exact absurd rfl h₁
      | coe c =>
        rw [weight_coe, rescale_coe, weight_coe, ← EReal.coe_mul, ← Real.exp_add]
        congr 2; ring

/-! ## Sums over the extended reals -/

/-- A real factor that is not negative moves into a sum. -/
theorem sum_mul_real {ι : Type*} (T : Finset ι) (f : ι → EReal) {r : ℝ} (hr : 0 ≤ r) :
    (∑ t ∈ T, f t) * (r : EReal) = ∑ t ∈ T, f t * (r : EReal) := by
  classical
  induction T using Finset.induction_on with
  | empty => simp
  | insert t T ht ih =>
    rw [Finset.sum_insert ht, Finset.sum_insert ht,
      EReal.right_distrib_of_nonneg_of_ne_top (EReal.coe_nonneg.2 hr) (EReal.coe_ne_top r), ih]

/-- Any factor moves into a sum of real numbers none of which is negative. -/
theorem mul_sum_real {ι : Type*} (T : Finset ι) (b : EReal) (w : ι → ℝ) (hw : ∀ t ∈ T, 0 ≤ w t) :
    b * ((∑ t ∈ T, w t : ℝ) : EReal) = ∑ t ∈ T, b * (w t : EReal) := by
  classical
  induction T using Finset.induction_on with
  | empty => simp
  | insert t T ht ih =>
    have hT : ∀ u ∈ T, 0 ≤ w u := fun u hu => hw u (Finset.mem_insert_of_mem hu)
    rw [Finset.sum_insert ht, Finset.sum_insert ht, EReal.coe_add,
      EReal.left_distrib_of_nonneg (EReal.coe_nonneg.2 (hw t (Finset.mem_insert_self t T)))
        (EReal.coe_nonneg.2 (Finset.sum_nonneg hT)), ih hT]

/-- A sum of real numbers is the same sum in the extended reals. -/
theorem coe_sum {ι : Type*} (T : Finset ι) (w : ι → ℝ) : ((∑ t ∈ T, w t : ℝ) : EReal) = ∑ t ∈ T, (w t : EReal) := by
  classical
  induction T using Finset.induction_on with
  | empty => simp
  | insert t T ht ih => rw [Finset.sum_insert ht, Finset.sum_insert ht, EReal.coe_add, ih]

/-! ## One step of the running sums -/

/-- A weighted sum over the tokens seen so far moves to a later maximum by one multiplication. -/
theorem sum_rescale {ι : Type*} (T : Finset ι) (a x : ι → EReal) {m₀ m₁ : EReal} (ha : ∀ t ∈ T, a t ≤ m₀)
    (h₀ : m₀ ≠ ⊤) (h₁ : m₁ ≠ ⊤) (hle : m₀ ≤ m₁) :
    (∑ t ∈ T, weight (a t) m₀ * x t) * rescale m₀ m₁ = ∑ t ∈ T, weight (a t) m₁ * x t := by
  obtain ⟨r, hr, he⟩ := rescale_real h₀ h₁ hle
  rw [he, sum_mul_real T _ hr]
  refine Finset.sum_congr rfl fun t ht => ?_
  rw [mul_assoc, mul_comm (x t), ← mul_assoc, ← he, weight_rescale (ha t ht) h₀ h₁ hle]

/-- The same for the plain sum of weights. -/
theorem sum_rescale_one {ι : Type*} (T : Finset ι) (a : ι → EReal) {m₀ m₁ : EReal} (ha : ∀ t ∈ T, a t ≤ m₀)
    (h₀ : m₀ ≠ ⊤) (h₁ : m₁ ≠ ⊤) (hle : m₀ ≤ m₁) :
    (∑ t ∈ T, weight (a t) m₀) * rescale m₀ m₁ = ∑ t ∈ T, weight (a t) m₁ := by
  simpa using sum_rescale T a (fun _ => 1) ha h₀ h₁ hle

/-! ## The pooled value -/

/-- Among real scores and `⊥`, the maximum is not `⊤`. -/
theorem sup_ne_top {ι : Type*} (T : Finset ι) (a : ι → EReal) (ha : ∀ t ∈ T, a t ≠ ⊤) : T.sup a ≠ ⊤ :=
  ((Finset.sup_lt_iff bot_lt_top).2 fun t ht => lt_top_iff_ne_top.2 (ha t ht)).ne

/-- Pooling with normalised weights and adding the bias to each row is dividing the weighted sum by the sum of
    the weights and adding the bias once; for a segment without a member both are zero. `l` are the scores,
    `S` the members. -/
theorem pooled {ι : Type*} [DecidableEq ι] (T S : Finset ι) (hS : S ⊆ T) (l : ι → ℝ) (x : ι → EReal) (b M : EReal)
    (a : ι → EReal) (haS : ∀ t ∈ S, a t = (l t : EReal)) (haN : ∀ t ∈ T, t ∉ S → a t = ⊥) (hM : M = T.sup a) :
    (if 0 < ∑ t ∈ T, weight (a t) M then
        Ideal.div (∑ t ∈ T, weight (a t) M * x t) (∑ t ∈ T, weight (a t) M) + b else 0)
      = ∑ t ∈ S, (x t + b) * Ideal.div (Ideal.exp ((l t : EReal) - M)) (∑ u ∈ S, Ideal.exp ((l u : EReal) - M)) := by
  have hMtop : M ≠ ⊤ := by
    rw [hM]; refine sup_ne_top T a fun t ht => ?_
    by_cases h : t ∈ S
    · rw [haS t h]; exact EReal.coe_ne_top _
    · rw [haN t ht h]; exact bot_ne_top
  have hsub : ∀ y : ι → EReal, ∑ t ∈ T, weight (a t) M * y t = ∑ t ∈ S, weight (a t) M * y t := fun y =>
    (Finset.sum_subset hS fun t ht h => by rw [haN t ht h, weight_bot hMtop, zero_mul]).symm
  have hone : ∑ t ∈ T, weight (a t) M = ∑ t ∈ S, weight (a t) M := by simpa using hsub fun _ => 1
  rw [hsub x, hone]
  rcases S.eq_empty_or_nonempty with rfl | ⟨s, hs⟩
  · simp
  -- the maximum is a real number
  have hMbot : M ≠ ⊥ := by
    intro h
    have : a s ≤ M := hM ▸ Finset.le_sup (hS hs)
    rw [haS s hs, h] at this
    exact EReal.coe_ne_bot _ (le_bot_iff.1 this)
  obtain ⟨μ, rfl⟩ : ∃ μ : ℝ, M = μ := ⟨M.toReal, (EReal.coe_toReal hMtop hMbot).symm⟩
  have hw : ∀ t ∈ S, weight (a t) (μ : EReal) = (Real.exp (l t - μ) : ℝ) := fun t ht => by
    rw [haS t ht, weight_coe]
  have he : ∀ t, Ideal.exp ((l t : EReal) - (μ : EReal)) = (Real.exp (l t - μ) : ℝ) := fun t => by
    rw [← EReal.coe_sub, Ideal.exp_coe]
  set D : ℝ := ∑ t ∈ S, Real.exp (l t - μ) with hD
  have hDpos : 0 < D := Finset.sum_pos (fun t _ => Real.exp_pos _) ⟨s, hs⟩
  have hsum : ∑ t ∈ S, weight (a t) (μ : EReal) = (D : EReal) := by
    rw [hD, coe_sum]; exact Finset.sum_congr rfl hw
  have hsum' : ∑ u ∈ S, Ideal.exp ((l u : EReal) - (μ : EReal)) = (D : EReal) := by
    rw [hD, coe_sum]; exact Finset.sum_congr rfl fun t _ => he t
  have hdiv : ∀ y : EReal, Ideal.div y (D : EReal) = y * ((D⁻¹ : ℝ) : EReal) := fun y => by
    rw [Ideal.div, if_neg (by exact_mod_cast hDpos.ne'), EReal.coe_inv]
  have hDinv : 0 ≤ D⁻¹ := (inv_pos.2 hDpos).le
  rw [hsum, hsum', if_pos (by exact_mod_cast hDpos), hdiv, sum_mul_real S _ hDinv]
  have hbias : b = ∑ t ∈ S, b * ((Real.exp (l t - μ) * D⁻¹ : ℝ) : EReal) := by
    rw [← mul_sum_real S b _ fun t _ => mul_nonneg (Real.exp_pos _).le hDinv, ← Finset.sum_mul, ← hD,
      mul_inv_cancel₀ hDpos.ne', EReal.coe_one, mul_one]
  conv_lhs => rw [hbias]
  rw [← Finset.sum_add_distrib]
  refine Finset.sum_congr rfl fun t ht => ?_
  rw [hdiv, he, hw t ht, ← EReal.coe_mul, EReal.right_distrib_of_nonneg_of_ne_top
    (EReal.coe_nonneg.2 (mul_nonneg (Real.exp_pos _).le hDinv)) (EReal.coe_ne_top _), EReal.coe_mul, mul_assoc,
    mul_left_comm, mul_comm (x t), ← mul_assoc]

end Cert.Softmax

end
-- ==== Proof.Block.lean ====
/- What one block of tokens computes, read at an index. Each value the kernel's body stores or reuses is an equation
   between extended reals over the block's rows: the score of a row for a segment, the running maximum, the factor
   for the sums kept so far, the weights, the two running sums, and the value written at the end. -/
module

public import proofs.«01_k».proof.Proof.Gen.KernelIdeal.Skeleton
public import proofs.«01_k».proof.Proof.Softmax
public import Idealize.ShloMosaic.Lib.Pipeline.ValueKit
public import Idealize.ShloMosaic.Lib.Pointwise
public import Idealize.ShloMosaic.Lib.WordCmp

@[expose] public section

set_option maxRecDepth 16384

noncomputable section

namespace Cert.KernelIdeal.Block

open Cert.KernelIdeal Cert.KernelIdeal.Gen Cert.Softmax Idealize.ShloMosaic Idealize.ShloMosaic.WordCmp

variable (x : FVec Ideal S2048x512 .f32) (w : FVec Ideal S512x256 .f32) (seg : IVec S2048x1 32)

/-- Row `r`'s logit: its product with the first 128 columns against its product with the last 128. -/
def logit (r : Fin 2048) : EReal :=
  ∑ k : Fin 128, (∑ l : Fin 512, x (ix2 r l) * w (ix2 l ⟨k.val, by omega⟩))
    * ∑ l : Fin 512, x (ix2 r l) * w (ix2 l ⟨128 + k.val, by omega⟩)

/-- Row `r`'s score for segment `s`: the logit where the row's id is `s`, else `⊥`. -/
def score (s : Fin 16) (r : Fin 2048) : EReal :=
  if seg (ix2 r 0) = BitVec.ofNat 32 s.val then logit x w r else ⊥

theorem score_eq (r : Fin 2048) (s : Fin 16) : k0_pay8 (F := Ideal) x w seg (ix2 r s) = score x w seg s r := by
  pointwise [k0_pay8]
  rw [neg_inf, cmpi_eq_eq]
  unfold score logit
  by_cases h : seg (ix2 r 0) = BitVec.ofNat 32 s.val <;> simp [h, Scalar.select]

variable (mo : FVec Ideal S1x16 .f32) (s : Fin 16)

theorem max_eq : k0_pay9 (F := Ideal) x w seg mo (ix2 0 s)
    = max (mo (ix2 0 s)) (Finset.univ.sup (score x w seg s)) := by
  pointwise [k0_pay9]
  rw [neg_inf]
  simp only [score_eq]
  rfl

theorem shift_eq : k0_pay10 (F := Ideal) x w seg mo (ix2 0 s) = shift (k0_pay9 (F := Ideal) x w seg mo (ix2 0 s)) := by
  pointwise [k0_pay10]
  rw [neg_inf]
  rfl

theorem rescale_eq : k0_pay11 (F := Ideal) x w seg mo (ix2 0 s)
    = rescale (mo (ix2 0 s)) (k0_pay9 (F := Ideal) x w seg mo (ix2 0 s)) := by
  pointwise [k0_pay11]
  rw [neg_inf, shift_eq]
  rfl

theorem weight_eq (r : Fin 2048) : k0_pay12 (F := Ideal) x w seg mo (ix2 r s)
    = weight (score x w seg s r) (k0_pay9 (F := Ideal) x w seg mo (ix2 0 s)) := by
  pointwise [k0_pay12]
  rw [score_eq, shift_eq]
  rfl

/-- The new sum of weights. -/
theorem den_eq (al : FVec Ideal S1x16 .f32) (p : FVec Ideal S2048x16 .f32) (d : FVec Ideal S1x16 .f32) :
    k0_pay1 (F := Ideal) al p d (ix2 0 s) = d (ix2 0 s) * al (ix2 0 s) + ∑ r, p (ix2 r s) := by
  pointwise [k0_pay1]

/-- The new weighted sum of rows. -/
theorem num_eq (al : FVec Ideal S1x16 .f32) (p : FVec Ideal S2048x16 .f32) (acc : FVec Ideal S16x512 .f32)
    (f : Fin 512) : k0_pay2 (F := Ideal) x al p acc (ix2 s f)
      = acc (ix2 s f) * al (ix2 0 s) + ∑ r, p (ix2 r s) * x (ix2 r f) := by
  pointwise [k0_pay2]

/-- What the last point writes. -/
theorem out_eq (d : FVec Ideal S1x16 .f32) (acc : FVec Ideal S16x512 .f32) (b : FVec Ideal S1x512 .f32)
    (f : Fin 512) : k0_pay4 (F := Ideal) d acc b (ix2 s f)
      = if 0 < d (ix2 0 s) then Ideal.div (acc (ix2 s f)) (d (ix2 0 s)) + b (ix2 0 f) else 0 := by
  pointwise [k0_pay4]

theorem kept_eq : k0_pay3 (F := Ideal) mo = mo := shapeCast_self _ _

theorem start_max : k0_pay5 (F := Ideal) (ix2 0 s) = ⊥ := by
  pointwise [k0_pay5]
  exact neg_inf

theorem start_den : k0_pay6 (F := Ideal) (ix2 0 s) = 0 := by
  pointwise [k0_pay6]

theorem start_num (f : Fin 512) : k0_pay7 (F := Ideal) (ix2 s f) = 0 := by
  pointwise [k0_pay7]

end Cert.KernelIdeal.Block

end
-- ==== Proof.Tokens.lean ====
/- The problem over its tokens, with no array in sight: the tokens of the first blocks, the score of a token for a
   segment, the three quantities carried from block to block, how one more block changes them, and the pooled value
   they give after the last. -/
module

public import proofs.«01_k».proof.Proof.Softmax

@[expose] public section

noncomputable section

namespace Cert.Tokens

open Cert.Softmax Idealize.ShloMosaic

/-- Row `r` of block `n`. -/
def tok (n : ℕ) (hn : n < 16) (r : Fin 2048) : Fin 32768 := ⟨2048 * n + r.val, by omega⟩

theorem tok_injective (n : ℕ) (hn : n < 16) : Function.Injective (tok n hn) := fun r r' h => by
  have := congrArg Fin.val h
  simp only [tok] at this
  exact Fin.ext (by omega)

/-- The tokens of the first `n` blocks. -/
def upto (n : ℕ) : Finset (Fin 32768) := Finset.univ.filter fun t => t.val < 2048 * n

theorem upto_zero : upto 0 = ∅ := by
  ext t; simp [upto]

theorem upto_all : upto 16 = Finset.univ := by
  ext t; simp [upto]

/-- The tokens of block `n`. -/
def block (n : ℕ) (hn : n < 16) : Finset (Fin 32768) :=
  Finset.univ.map ⟨tok n hn, tok_injective n hn⟩

theorem mem_block (n : ℕ) (hn : n < 16) (t : Fin 32768) : t ∈ block n hn ↔ ∃ r, tok n hn r = t := by
  simp [block]

theorem upto_succ (n : ℕ) (hn : n < 16) : upto (n + 1) = upto n ∪ block n hn := by
  ext t
  simp only [upto, Finset.mem_filter, Finset.mem_univ, true_and, Finset.mem_union, mem_block]
  constructor
  · intro h
    by_cases h' : t.val < 2048 * n
    · exact Or.inl h'
    · exact Or.inr ⟨⟨t.val - 2048 * n, by omega⟩, Fin.ext (by simp only [tok]; omega)⟩
  · rintro (h | ⟨r, rfl⟩)
    · omega
    · simp only [tok]; omega

theorem upto_disjoint (n : ℕ) (hn : n < 16) : Disjoint (upto n) (block n hn) := by
  rw [Finset.disjoint_left]
  intro t ht hb
  simp only [upto, Finset.mem_filter, Finset.mem_univ, true_and, mem_block] at ht hb
  obtain ⟨r, rfl⟩ := hb
  simp only [tok] at ht
  omega

/-- A sum over one block more. -/
theorem sum_succ (n : ℕ) (hn : n < 16) (g : Fin 32768 → EReal) :
    ∑ t ∈ upto (n + 1), g t = ∑ t ∈ upto n, g t + ∑ r, g (tok n hn r) := by
  rw [upto_succ n hn, Finset.sum_union (upto_disjoint n hn), block, Finset.sum_map]
  rfl

/-- A supremum over one block more. -/
theorem sup_succ (n : ℕ) (hn : n < 16) (g : Fin 32768 → EReal) :
    (upto (n + 1)).sup g = max ((upto n).sup g) (Finset.univ.sup fun r => g (tok n hn r)) := by
  rw [upto_succ n hn, Finset.sup_union, block, Finset.sup_map]
  rfl

variable (L : Fin 32768 → EReal) (id : Fin 32768 → BitVec 32) (s : Fin 16)

/-- Token `t`'s score for segment `s`: its logit if it belongs to the segment, else `⊥`. -/
def score (t : Fin 32768) : EReal := if id t = BitVec.ofNat 32 s.val then L t else ⊥

/-- The largest score in the first `n` blocks. -/
def top (n : ℕ) : EReal := (upto n).sup (score L id s)

/-- The sum of the weights of the first `n` blocks' tokens. -/
def den (n : ℕ) : EReal := ∑ t ∈ upto n, weight (score L id s t) (top L id s n)

/-- The weighted sum of the first `n` blocks' values `x`. -/
def num (x : Fin 32768 → EReal) (n : ℕ) : EReal := ∑ t ∈ upto n, weight (score L id s t) (top L id s n) * x t

theorem top_zero : top L id s 0 = ⊥ := by simp [top, upto_zero]

theorem den_zero : den L id s 0 = 0 := by simp [den, upto_zero]

theorem num_zero (x : Fin 32768 → EReal) : num L id s x 0 = 0 := by simp [num, upto_zero]

theorem top_succ (n : ℕ) (hn : n < 16) :
    top L id s (n + 1) = max (top L id s n) (Finset.univ.sup fun r => score L id s (tok n hn r)) :=
  sup_succ n hn _

variable (hL : ∀ t, L t ≠ ⊤)

include hL in
theorem score_ne_top (t : Fin 32768) : score L id s t ≠ ⊤ := by
  unfold score
  split
  · exact hL t
  · exact bot_ne_top

include hL in
theorem top_ne_top (n : ℕ) : top L id s n ≠ ⊤ := sup_ne_top _ _ fun t _ => score_ne_top L id s hL t

theorem score_le_top (n : ℕ) (t : Fin 32768) (ht : t ∈ upto n) : score L id s t ≤ top L id s n :=
  Finset.le_sup (f := score L id s) ht

theorem top_le_succ (n : ℕ) (hn : n < 16) : top L id s n ≤ top L id s (n + 1) := by
  rw [top_succ L id s n hn]; exact le_max_left _ _

include hL in
/-- One more block: the sum so far is rescaled to the new maximum and the block's weights are added. -/
theorem den_succ (n : ℕ) (hn : n < 16) :
    den L id s (n + 1) = den L id s n * rescale (top L id s n) (top L id s (n + 1))
      + ∑ r, weight (score L id s (tok n hn r)) (top L id s (n + 1)) := by
  unfold den
  rw [sum_succ n hn, sum_rescale_one _ _ (score_le_top L id s n) (top_ne_top L id s hL n)
    (top_ne_top L id s hL (n + 1)) (top_le_succ L id s n hn)]

include hL in
theorem num_succ (x : Fin 32768 → EReal) (n : ℕ) (hn : n < 16) :
    num L id s x (n + 1) = num L id s x n * rescale (top L id s n) (top L id s (n + 1))
      + ∑ r, weight (score L id s (tok n hn r)) (top L id s (n + 1)) * x (tok n hn r) := by
  unfold num
  rw [sum_succ n hn, sum_rescale _ _ _ (score_le_top L id s n) (top_ne_top L id s hL n)
    (top_ne_top L id s hL (n + 1)) (top_le_succ L id s n hn)]

/-- The tokens of segment `s`. -/
def members : Finset (Fin 32768) := Finset.univ.filter fun t => id t = BitVec.ofNat 32 s.val

/-- Token `t`'s logit: its key projection against its query projection. -/
def logit (X : Fin 32768 → Fin 512 → EReal) (K Q : Fin 512 → Fin 128 → EReal) (t : Fin 32768) : EReal :=
  ∑ k, (∑ l, X t l * K l k) * ∑ l, X t l * Q l k

/-- What segment `s` pools: its members' values with the bias added, weighted by their softmax. -/
def pool (x : Fin 32768 → EReal) (b : EReal) : EReal :=
  ∑ t ∈ members id s, (x t + b) * Ideal.div (Ideal.exp (L t - top L id s 16))
    (∑ u ∈ members id s, Ideal.exp (L u - top L id s 16))

/-- After the last block the carried quantities give the pooled value. -/
theorem pool_eq (hreal : ∀ t, ∃ r : ℝ, L t = r) (x : Fin 32768 → EReal) (b : EReal) :
    (if 0 < den L id s 16 then Ideal.div (num L id s x 16) (den L id s 16) + b else 0) = pool L id s x b := by
  choose l hl using hreal
  have e := pooled (upto 16) (members id s) (by rw [upto_all]; exact Finset.subset_univ _) l x b (top L id s 16)
    (score L id s) (fun t ht => by rw [← hl]; exact if_pos (Finset.mem_filter.1 ht).2)
    (fun t _ ht => if_neg fun h => ht (Finset.mem_filter.2 ⟨Finset.mem_univ _, h⟩)) rfl
  simp only [← hl] at e
  exact e

end Cert.Tokens

end
-- ==== Proof.State.lean ====
/- The kernel's run read point by point: what the blocks of its windows are of the arguments, what the three carried
   buffers hold after each point, and what the last point leaves in the output. -/
module

public import proofs.«01_k».proof.Proof.Gen.KernelIdeal.Value
public import proofs.«01_k».proof.Proof.Block
public import proofs.«01_k».proof.Proof.Tokens
public import Idealize.ShloMosaic.Lib.Pipeline.ReadBack

@[expose] public section

set_option maxRecDepth 16384

noncomputable section

namespace Cert.KernelIdeal.State

open Cert.KernelIdeal Cert.KernelIdeal.Gen Idealize.ShloMosaic Idealize.ShloMosaic.TcCoe

variable (m : (ℓ : Loc nD τ sig) → Buf (Elt Ideal) ℓ) (c : Dev nD)

/-! ## The arguments as functions of their coordinates -/

def flat (t : Fin 32768) (l : Fin 512) : EReal := m (c.tc.loc main_arg0) (ix2 t l)

def seg (t : Fin 32768) : BitVec 32 := m (c.tc.loc main_arg1) (ix1 t)

def keyW (l : Fin 512) (k : Fin 128) : EReal := m (c.tc.loc main_arg2) (ix2 l k)

def queryW (l : Fin 512) (k : Fin 128) : EReal := m (c.tc.loc main_arg3) (ix2 l k)

def bias (f : Fin 512) : EReal := m (c.tc.loc main_arg4) (ix1 f)

/-- The tokens' logits. -/
def lgt (t : Fin 32768) : EReal := Tokens.logit (flat m c) (keyW m c) (queryW m c) t

/-! ## The windows' blocks -/

theorem lt16 (t : Fin cfg0.N) : t.val < 16 := lt_of_lt_of_eq t.isLt N_0

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![0, 0] := by decide +kernel

theorem blk_seg (t : Fin cfg0.N) (r : Fin 2048) : iblk m c 0 t (ix2 r 0) = seg m c (Tokens.tok t.val (lt16 t) r) := by
  unfold seg Tokens.tok
  blk_simp [iblk, idx0 t]
  entry_read
  pointwise
  blk_ext [idx0 t]

theorem blk_flat (t : Fin cfg0.N) (r : Fin 2048) (f : Fin 512) :
    iblk m c 1 t (ix2 r f) = flat m c (Tokens.tok t.val (lt16 t) r) f := by
  unfold flat Tokens.tok
  blk_ext [iblk, V, idx1 t]

theorem blk_key (t : Fin cfg0.N) (l : Fin 512) (k : Fin 128) :
    iblk m c 2 t (ix2 l ⟨k.val, by omega⟩) = keyW m c l k := by
  unfold keyW
  blk_simp [iblk, idx2 t]
  entry_read
  pointwise
  rw [dif_pos (by blk_simp [idx2 t]; exact k.isLt)]
  blk_ext [idx2 t]

theorem blk_query (t : Fin cfg0.N) (l : Fin 512) (k : Fin 128) :
    iblk m c 2 t (ix2 l ⟨128 + k.val, by omega⟩) = queryW m c l k := by
  unfold queryW
  blk_simp [iblk, idx2 t]
  entry_read
  pointwise
  rw [dif_neg (by blk_simp [idx2 t]; exact Nat.not_lt.2 (Nat.le_add_right _ _))]
  blk_ext [idx2 t]

theorem blk_bias (t : Fin cfg0.N) (f : Fin 512) : iblk m c 3 t (ix2 0 f) = bias m c f := by
  unfold bias
  blk_simp [iblk, idx3 t]
  entry_read
  pointwise
  blk_ext [idx3 t]

/-- A row's score in its block is its token's score. -/
theorem blk_score (t : Fin cfg0.N) (s : Fin 16) (r : Fin 2048) :
    Block.score (iblk m c 1 t) (iblk m c 2 t) (iblk m c 0 t) s r
      = Tokens.score (lgt m c) (seg m c) s (Tokens.tok t.val (lt16 t) r) := by
  unfold Block.score Tokens.score lgt Tokens.logit Block.logit
  simp only [blk_seg, blk_flat, blk_key, blk_query]

/-! ## One point, over any carried contents -/

/-- The three carried buffers hold the running quantities of the first `n` blocks. -/
structure Holds (n : ℕ) (mo d : FVec Ideal S1x16 .f32) (acc : FVec Ideal S16x512 .f32) : Prop where
  top : ∀ s, mo (ix2 0 s) = Tokens.top (lgt m c) (seg m c) s n
  den : ∀ s, d (ix2 0 s) = Tokens.den (lgt m c) (seg m c) s n
  num : ∀ s f, acc (ix2 s f) = Tokens.num (lgt m c) (seg m c) s (fun t => flat m c t f) n

theorem holds_start : Holds m c 0 (k0_pay5 (F := Ideal)) (k0_pay6 (F := Ideal)) (k0_pay7 (F := Ideal)) where
  top s := (Block.start_max s).trans (Tokens.top_zero _ _ s).symm
  den s := (Block.start_den s).trans (Tokens.den_zero _ _ s).symm
  num s f := (Block.start_num s f).trans (Tokens.num_zero _ _ s _).symm

variable (t : Fin cfg0.N) (mo d : FVec Ideal S1x16 .f32) (acc : FVec Ideal S16x512 .f32)

/-- A point takes the running quantities of the blocks before it to those with its own block. -/
theorem holds_step (hL : ∀ t, lgt m c t ≠ ⊤) (h : Holds m c t.val mo d acc) :
    Holds m c (t.val + 1) (k0_pay9 (F := Ideal) (iblk m c 1 t) (iblk m c 2 t) (iblk m c 0 t) mo)
      (k0_pay1 (F := Ideal) (k0_pay11 (F := Ideal) (iblk m c 1 t) (iblk m c 2 t) (iblk m c 0 t) mo)
        (k0_pay12 (F := Ideal) (iblk m c 1 t) (iblk m c 2 t) (iblk m c 0 t) mo) d)
      (k0_pay2 (F := Ideal) (iblk m c 1 t) (k0_pay11 (F := Ideal) (iblk m c 1 t) (iblk m c 2 t) (iblk m c 0 t) mo)
        (k0_pay12 (F := Ideal) (iblk m c 1 t) (iblk m c 2 t) (iblk m c 0 t) mo) acc) := by
  have top : ∀ s, k0_pay9 (F := Ideal) (iblk m c 1 t) (iblk m c 2 t) (iblk m c 0 t) mo (ix2 0 s)
      = Tokens.top (lgt m c) (seg m c) s (t.val + 1) := fun s => by
    rw [Block.max_eq, Tokens.top_succ _ _ _ _ (lt16 t), h.top s]
    rw [funext (blk_score m c t s)]
  refine ⟨top, fun s => ?_, fun s f => ?_⟩
  · rw [Block.den_eq, Tokens.den_succ _ _ _ hL _ (lt16 t), h.den s, Block.rescale_eq, top s, h.top s]
    simp only [Block.weight_eq, top s, blk_score]
  · rw [Block.num_eq, Tokens.num_succ _ _ _ hL _ _ (lt16 t), h.num s f, Block.rescale_eq, top s, h.top s]
    simp only [Block.weight_eq, top s, blk_score, blk_flat]

/-! ## After every point -/

theorem holds_first (hL : ∀ t, lgt m c t ≠ ⊤) (h0 : t.val % 16 = 0) : Holds m c (t.val + 1)
    (outsAt0 m c t.val t.isLt).2.1 (outsAt0 m c t.val t.isLt).2.2.1 (outsAt0 m c t.val t.isLt).2.2.2 := by
  have hz : t.val = 0 := by have := lt16 t; omega
  have h := holds_step m c t _ _ _ hL (hz ▸ holds_start m c)
  rw [outsAt0_A m c t h0 (by omega)]
  frame_out
  rw [Block.kept_eq]
  exact h

theorem holds_next (hL : ∀ t, lgt m c t ≠ ⊤) (h0 : ¬ t.val % 16 = 0)
    (h : Holds m c t.val (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2) :
    Holds m c (t.val + 1)
    (outsAt0 m c t.val t.isLt).2.1 (outsAt0 m c t.val t.isLt).2.2.1 (outsAt0 m c t.val t.isLt).2.2.2 := by
  have h' := holds_step m c t _ _ _ hL h
  by_cases h1 : t.val % 16 = 15
  · rw [outsAt0_C m c t h0 h1]
    frame_out
    simp only [read_unread_whole, Block.kept_eq]
    exact h'
  · rw [outsAt0_B m c t h0 h1]
    frame_out
    simp only [read_unread_whole, Block.kept_eq]
    exact h'

theorem holds (hL : ∀ t, lgt m c t ≠ ⊤) (n : ℕ) (hn : n < cfg0.N) : Holds m c (n + 1)
    (outsAt0 m c n hn).2.1 (outsAt0 m c n hn).2.2.1 (outsAt0 m c n hn).2.2.2 := by
  induction n with
  | zero => exact holds_first m c ⟨0, hn⟩ hL rfl
  | succ n ih =>
    have := lt16 ⟨n + 1, hn⟩
    exact holds_next m c ⟨n + 1, hn⟩ hL (by simp only at this ⊢; omega) (ih (Nat.lt_of_succ_lt hn))

/-! ## The output -/

/-- The last point writes what its own maximum, sum and weighted sum give. -/
theorem last_out (h0 : ¬ t.val % 16 = 0) (h1 : t.val % 16 = 15) : (outsAt0 m c t.val t.isLt).1
    = k0_pay4 (F := Ideal) (outsAt0 m c t.val t.isLt).2.2.1 (outsAt0 m c t.val t.isLt).2.2.2 (iblk m c 3 t) := by
  rw [outsAt0_C m c t h0 h1]
  frame_out

theorem output (hreal : ∀ t, ∃ r : ℝ, lgt m c t = r) (s : Fin 16) (f : Fin 512) :
    Value.G4 m c (ix2 s f) = Tokens.pool (lgt m c) (seg m c) s (fun t => flat m c t f) (bias m c f) := by
  have hL : ∀ t, lgt m c t ≠ ⊤ := fun t => by
    obtain ⟨r, hr⟩ := hreal t
    rw [hr]; exact EReal.coe_ne_top r
  have hN : 15 < cfg0.N := lt_of_lt_of_eq (by decide) N_0.symm
  have h := holds m c hL 15 hN
  rw [Value.G4_last, ← Value.outsAt0_sweep m c 15 hN, last_out m c ⟨15, hN⟩ (by simp) rfl,
    Block.out_eq, h.den s, h.num s f, blk_bias]
  exact Tokens.pool_eq _ _ s hreal _ _

end Cert.KernelIdeal.State

end
-- ==== Proof.Scatter.lean ====
/- The reference's two sums over segments, read at one element: which token's update lands where. -/
module

public import proofs.«01_k».proof.Proof.Gen.ReferenceIdeal
public import proofs.«01_k».proof.Proof.Tokens
public import Idealize.ShloMosaic.Lib.Routing.OpsPair
public import Idealize.ShloMosaic.Lib.Pipeline.ValueKit
public import Idealize.ShloMosaic.Lib.Pointwise

@[expose] public section

set_option maxRecDepth 16384

noncomputable section

namespace Cert.ReferenceIdeal.Scatter

open Cert.ReferenceIdeal Cert.ReferenceIdeal.Gen Idealize.ShloMosaic

/-- A word read signed is the segment number `s` exactly when it is the word of `s`. -/
theorem toInt_eq_seg (v : BitVec 32) (s : Fin 16) : v.toInt = (s.val : Int) ↔ v = BitVec.ofNat 32 s.val := by
  have hs : (BitVec.ofNat 32 s.val).toInt = (s.val : Int) := WordCmp.toInt_ofNat_of_lt (by omega)
  rw [← hs, BitVec.toInt_inj]

/-- Token `t`'s weight lands at segment `s` exactly when its id is `s`. -/
theorem lands1 (idx : IVec S32768x1 32) (t : Fin 32768) (s : Fin 16) :
    scatter_S16_S32768x1_S32768_n_0_0_1.resultIdx? (ix1 t) idx = some (ix1 s)
      ↔ idx (ix2 t 0) = BitVec.ofNat 32 s.val := by
  have hw : scatter_S16_S32768x1_S32768_n_0_0_1.window (ix1 t) 0 = 0 := rfl
  have hst : scatter_S16_S32768x1_S32768_n_0_0_1.start (ix1 t) idx 0 = (idx (ix2 t 0)).toInt := by
    unfold ScatterDims.start
    rw [dif_pos (by decide)]
    congr 2
    funext b
    match b with
    | ⟨0, _⟩ => rfl
    | ⟨1, _⟩ => rfl
  rw [← toInt_eq_seg, ← hst, Routing.resultIdx?_eq_some]
  constructor
  · intro h
    have := h 0
    rw [hw] at this
    simpa using this
  · intro h a
    match a with
    | ⟨0, _⟩ =>
      show scatter_S16_S32768x1_S32768_n_0_0_1.start (ix1 t) idx 0 + (scatter_S16_S32768x1_S32768_n_0_0_1.window (ix1 t) 0 : Int) = s.val
      rw [hw, h]; simp

/-- Entry `f'` of token `t`'s row lands at `(s, f)` exactly when its id is `s` and `f'` is `f`. -/
theorem lands2 (idx : IVec S32768x1 32) (t : Fin 32768) (f' : Fin 512) (s : Fin 16) (f : Fin 512) :
    scatter_S16x512_S32768x1_S32768x512_1_0_0_1.resultIdx? (ix2 t f') idx = some (ix2 s f)
      ↔ idx (ix2 t 0) = BitVec.ofNat 32 s.val ∧ f' = f := by
  have hw0 : scatter_S16x512_S32768x1_S32768x512_1_0_0_1.window (ix2 t f') 0 = 0 := rfl
  have hw1 : scatter_S16x512_S32768x1_S32768x512_1_0_0_1.window (ix2 t f') 1 = f'.val := rfl
  have hs1 : scatter_S16x512_S32768x1_S32768x512_1_0_0_1.start (ix2 t f') idx 1 = 0 := rfl
  have hs0 : scatter_S16x512_S32768x1_S32768x512_1_0_0_1.start (ix2 t f') idx 0 = (idx (ix2 t 0)).toInt := by
    unfold ScatterDims.start
    rw [dif_pos (by decide)]
    congr 2
    funext b
    match b with
    | ⟨0, _⟩ => rfl
    | ⟨1, _⟩ => rfl
  rw [← toInt_eq_seg, ← hs0, Routing.resultIdx?_eq_some]
  constructor
  · intro h
    have e0 := h 0
    have e1 := h 1
    rw [hw0] at e0
    rw [hw1, hs1] at e1
    exact ⟨by simpa using e0, Fin.ext (by simpa using e1)⟩
  · rintro ⟨h, rfl⟩ a
    match a with
    | ⟨0, _⟩ =>
      show scatter_S16x512_S32768x1_S32768x512_1_0_0_1.start (ix2 t f') idx 0
        + (scatter_S16x512_S32768x1_S32768x512_1_0_0_1.window (ix2 t f') 0 : Int) = s.val
      rw [hw0, h]; simp
    | ⟨1, _⟩ =>
      show scatter_S16x512_S32768x1_S32768x512_1_0_0_1.start (ix2 t f') idx 1
        + (scatter_S16x512_S32768x1_S32768x512_1_0_0_1.window (ix2 t f') 1 : Int) = f'.val
      rw [hw1, hs1]; simp

variable (id : Fin 32768 → BitVec 32) (idx : IVec S32768x1 32) (hid : ∀ t, idx (ix2 t 0) = id t)

include hid in
/-- The sum of the members' weights. -/
theorem sum1 (z : FVec Ideal S16 .f32) (upd : FVec Ideal S32768 .f32) (s : Fin 16) (hz : z (ix1 s) = 0) :
    Host.scatterAdd (F := Ideal) scatter_S16_S32768x1_S32768_n_0_0_1 z idx upd (ix1 s)
      = ∑ t ∈ Tokens.members id s, upd (ix1 t) := by
  refine (show _ = z (ix1 s) + ∑ j ∈ Finset.univ.filter
    (fun j => scatter_S16_S32768x1_S32768_n_0_0_1.resultIdx? j idx = some (ix1 s)), upd j from rfl).trans ?_
  rw [hz, zero_add]
  refine (Finset.sum_bij (fun t _ => ix1 t) ?_ ?_ ?_ ?_).symm
  · intro t ht
    rw [Finset.mem_filter]
    exact ⟨Finset.mem_univ _, (lands1 idx t s).2 ((hid t).trans (Finset.mem_filter.1 ht).2)⟩
  · intro t _ t' _ h
    exact congrFun h 0
  · intro j hj
    obtain ⟨t, rfl⟩ : ∃ t, j = ix1 t := ⟨j 0, by funext a; match a with | ⟨0, _⟩ => rfl⟩
    exact ⟨t, Finset.mem_filter.2 ⟨Finset.mem_univ _, (hid t).symm.trans ((lands1 idx t s).1 (Finset.mem_filter.1 hj).2)⟩, rfl⟩
  · intro t _; rfl

include hid in
/-- The sum of the members' rows, at one column. -/
theorem sum2 (z : FVec Ideal S16x512 .f32) (upd : FVec Ideal S32768x512 .f32) (s : Fin 16) (f : Fin 512)
    (hz : z (ix2 s f) = 0) :
    Host.scatterAdd (F := Ideal) scatter_S16x512_S32768x1_S32768x512_1_0_0_1 z idx upd (ix2 s f)
      = ∑ t ∈ Tokens.members id s, upd (ix2 t f) := by
  refine (show _ = z (ix2 s f) + ∑ j ∈ Finset.univ.filter
    (fun j => scatter_S16x512_S32768x1_S32768x512_1_0_0_1.resultIdx? j idx = some (ix2 s f)), upd j from rfl).trans ?_
  rw [hz, zero_add]
  refine (Finset.sum_bij (fun t _ => ix2 t f) ?_ ?_ ?_ ?_).symm
  · intro t ht
    rw [Finset.mem_filter]
    exact ⟨Finset.mem_univ _, (lands2 idx t f s f).2 ⟨(hid t).trans (Finset.mem_filter.1 ht).2, rfl⟩⟩
  · intro t _ t' _ h
    exact congrFun h 0
  · intro j hj
    obtain ⟨t, f', rfl⟩ : ∃ t f', j = ix2 t f' :=
      ⟨j 0, j 1, by funext a; match a with | ⟨0, _⟩ => rfl | ⟨1, _⟩ => rfl⟩
    have h := (lands2 idx t f' s f).1 (Finset.mem_filter.1 hj).2
    exact ⟨t, Finset.mem_filter.2 ⟨Finset.mem_univ _, (hid t).symm.trans h.1⟩, by rw [h.2]⟩
  · intro t _; rfl

end Cert.ReferenceIdeal.Scatter

end
-- ==== Proof.Reference.lean ====
/- The reference read at an index. Its term is cut at the vectors it names more than once (the logits, the segments'
   maxima, the exponentials, the segments' sums); each is read at a token or a segment, and the result at segment `s`
   and column `f` is the pooled value of that segment's members. -/
module

public import proofs.«01_k».proof.Proof.Gen.ReferenceIdeal.Run
public import proofs.«01_k».proof.Proof.Scatter
public import Idealize.ShloMosaic.Lib.Routing.OpsSet

@[expose] public section

set_option maxRecDepth 16384

noncomputable section

namespace Cert.ReferenceIdeal.Reference

open Cert.ReferenceIdeal Cert.ReferenceIdeal.Gen Idealize.ShloMosaic Idealize.ShloMosaic.TcCoe

/-! ## The vectors -/

/-- The tokens' logits. -/
def logits (X : FVec Ideal S32768x512 .f32) (K Q : FVec Ideal S512x128 .f32) : FVec Ideal S32768 .f32 :=
  Host.reduceAdd
    (mulf (Host.dotGeneral dot_S32768x512_S512x128_S32768x128_1_0_0_1_n_n none X K)
      (Host.dotGeneral dot_S32768x512_S512x128_S32768x128_1_0_0_1_n_n none X Q))
    (constant S_ .f32 0x00000000#32) reducesTo_S32768x128_S32768_d1 h_S_

/-- The segment ids as a column. -/
def column (ids : IVec S32768 32) : IVec S32768x1 32 := broadcastInDim S32768x1 ![0] bcast_S32768_S32768x1_0 ids

/-- The segment ids as a column, a negative one counted from the end. -/
def wrapped (ids : IVec S32768 32) : IVec S32768x1 32 :=
  broadcastInDim S32768x1 ![0] bcast_S32768_S32768x1_0
    (select (cmpi .slt ids (broadcastInDim S32768 ![] bcast_S_S32768 (constantI S_ 32 0#32)))
      (addi ids (broadcastInDim S32768 ![] bcast_S_S32768 (constantI S_ 32 16#32))) ids)

variable (ids : IVec S32768 32) (L : FVec Ideal S32768 .f32)

/-- The segments' largest logits. -/
def tops : FVec Ideal S16 .f32 :=
  Host.reduce FloatOps.maximumf
    (select
      (cmpi .eq (broadcastInDim S32768x16 ![0, 1] bcast_S32768x1_S32768x16_0_1 (column ids))
        (broadcastInDim S32768x16 ![0, 1] bcast_S1x16_S32768x16_0_1
          (broadcastInDim S1x16 ![1] bcast_S16_S1x16_1 (iotaInDim S16 32 0))))
      (broadcastInDim S32768x16 ![0, 1] bcast_S32768x1_S32768x16_0_1
        (broadcastInDim S32768x1 ![0] bcast_S32768_S32768x1_0 L))
      (broadcastInDim S32768x16 ![] bcast_S_S32768x16 (id (constant S_ .f32 0xFF800000#32))))
    (constant S_ .f32 0xFF800000#32) reducesTo_S32768x16_S16_d0 h_S_

/-- The exponentials of the logits less their segments' maxima. -/
def exps : FVec Ideal S32768 .f32 :=
  Host.exp (subf L (Host.gather gather_S16_S32768x1_S32768_n_0_n_n_0_1_1 (tops ids L) (wrapped ids)))

/-- The segments' sums of exponentials. -/
def dens : FVec Ideal S16 .f32 :=
  Host.scatterAdd scatter_S16_S32768x1_S32768_n_0_0_1
    (broadcastInDim S16 ![] bcast_S_S16 (constant S_ .f32 0x00000000#32)) (column ids) (exps ids L)

/-- Each token's row with the bias added, times its softmax weight. -/
def rows (X : FVec Ideal S32768x512 .f32) (b : FVec Ideal S512 .f32) : FVec Ideal S32768x512 .f32 :=
  mulf
    (addf X (broadcastInDim S32768x512 ![0, 1] bcast_S1x512_S32768x512_0_1
      (broadcastInDim S1x512 ![1] bcast_S512_S1x512_1 b)))
    (broadcastInDim S32768x512 ![0, 1] bcast_S32768x1_S32768x512_0_1
      (broadcastInDim S32768x1 ![0] bcast_S32768_S32768x1_0
        (Host.divf (exps ids L)
          (Host.gather gather_S16_S32768x1_S32768_n_0_n_n_0_1_1 (dens ids L) (wrapped ids)))))

/-- The pooled rows of the segments. -/
def result (X : FVec Ideal S32768x512 .f32) (b : FVec Ideal S512 .f32) : FVec Ideal S16x512 .f32 :=
  Host.scatterAdd scatter_S16x512_S32768x1_S32768x512_1_0_0_1
    (broadcastInDim S16x512 ![] bcast_S_S16x512 (constant S_ .f32 0x00000000#32)) (column ids) (rows ids L X b)

/-- The reference's result is these vectors put together. -/
theorem res_eq (m : (ℓ : Loc nD τ sig) → Buf (Elt Ideal) ℓ) (c : Dev nD) :
    Value.res_out0 m c = result (m (c.tc.loc main_arg1))
      (logits (m (c.tc.loc main_arg0)) (m (c.tc.loc main_arg2)) (m (c.tc.loc main_arg3)))
      (m (c.tc.loc main_arg0)) (m (c.tc.loc main_arg4)) := rfl

/-! ## Their entries -/

theorem logits_at (X : FVec Ideal S32768x512 .f32) (K Q : FVec Ideal S512x128 .f32) (t : Fin 32768) :
    logits X K Q (ix1 t)
      = Tokens.logit (fun t l => X (ix2 t l)) (fun l k => K (ix2 l k)) (fun l k => Q (ix2 l k)) t := by
  unfold logits
  pointwise
  rfl

theorem column_at (t : Fin 32768) : column ids (ix2 t 0) = ids (ix1 t) := by
  unfold column
  pointwise

theorem tops_at (s : Fin 16) :
    tops ids L (ix1 s) = Tokens.top (fun t => L (ix1 t)) (fun t => ids (ix1 t)) s 16 := by
  unfold tops column
  pointwise
  have e : id (constant (F := Ideal) S_ .f32 0xFF800000#32) ix0 = (⊥ : EReal) := Softmax.neg_inf
  rw [Softmax.neg_inf, e]
  simp only [WordCmp.cmpi_eq_eq, WordCmp.select_ofBool, decide_eq_true_eq]
  unfold Tokens.top Tokens.score
  rw [Tokens.upto_all]
  rfl

variable (t : Fin 32768) (s : Fin 16) (hs : ids (ix1 t) = BitVec.ofNat 32 s.val)

include hs in
/-- Reading a table of the segments at a member's id gives its segment's entry. -/
theorem take_at (x : FVec Ideal S16 .f32) :
    Host.gather gather_S16_S32768x1_S32768_n_0_n_n_0_1_1 x (wrapped ids) (ix1 t) = x (ix1 s) := by
  refine Routing.gather_take1 _ rfl rfl rfl rfl x _ t s ?_ (by decide)
  unfold wrapped
  pointwise
  rw [hs]
  refine Routing.wrap_of_lt _ _ ?_
  rw [WordCmp.toNat_ofNat_of_lt (by omega)]
  omega

include hs in
theorem exps_at : exps ids L (ix1 t)
    = Ideal.exp (L (ix1 t) - Tokens.top (fun t => L (ix1 t)) (fun t => ids (ix1 t)) s 16) := by
  unfold exps
  pointwise
  rw [take_at ids t s hs, tops_at]

omit t hs in
theorem dens_at : dens ids L (ix1 s) = ∑ u ∈ Tokens.members (fun t => ids (ix1 t)) s,
    Ideal.exp (L (ix1 u) - Tokens.top (fun t => L (ix1 t)) (fun t => ids (ix1 t)) s 16) := by
  refine (Scatter.sum1 _ _ (column_at ids) _ _ s ?_).trans ?_
  · pointwise
  · exact Finset.sum_congr rfl fun u hu => exps_at ids L u s (Finset.mem_filter.1 hu).2

include hs in
theorem rows_at (X : FVec Ideal S32768x512 .f32) (b : FVec Ideal S512 .f32) (f : Fin 512) :
    rows ids L X b (ix2 t f) = (X (ix2 t f) + b (ix1 f))
      * Ideal.div (Ideal.exp (L (ix1 t) - Tokens.top (fun t => L (ix1 t)) (fun t => ids (ix1 t)) s 16))
        (∑ u ∈ Tokens.members (fun t => ids (ix1 t)) s,
          Ideal.exp (L (ix1 u) - Tokens.top (fun t => L (ix1 t)) (fun t => ids (ix1 t)) s 16)) := by
  unfold rows
  pointwise
  rw [take_at ids t s hs, exps_at ids L t s hs, dens_at]

omit t hs in
theorem result_at (X : FVec Ideal S32768x512 .f32) (b : FVec Ideal S512 .f32) (f : Fin 512) :
    result ids L X b (ix2 s f)
      = Tokens.pool (fun t => L (ix1 t)) (fun t => ids (ix1 t)) s (fun t => X (ix2 t f)) (b (ix1 f)) := by
  refine (Scatter.sum2 _ _ (column_at ids) _ _ s f ?_).trans ?_
  · pointwise
  · exact Finset.sum_congr rfl fun u hu => rows_at ids L u s (Finset.mem_filter.1 hu).2 X b f

end Cert.ReferenceIdeal.Reference

end
-- ==== Proof.Finite.lean ====
/- The precondition read off its program: every token's logit is a real number. -/
module

public import proofs.«01_k».proof.Defs
public import proofs.«01_k».proof.Proof.Tokens
public import Idealize.ShloMosaic.Lib.WordCmp
public import Idealize.ShloMosaic.Lib.Pipeline.ValueKit
public import Idealize.ShloMosaic.Lib.Pointwise

@[expose] public section

set_option maxRecDepth 16384

noncomputable section

namespace Cert.Pre_finite_logits

open Idealize.ShloMosaic

/-- What the precondition's program needs of its shapes. -/
instance facts : Facts where
  reducesTo_S32768x128_S32768_d1 := by decide
  h_S_ := by decide
  bcast_S_S32768 := by decide
  dot_S32768x512_S512x128_S32768x128_1_0_0_1_n_n_wf := by decide

/-- An extended real whose absolute value is below `⊤` is a real number. -/
theorem real_of_abs_lt {x : EReal} (h : max x (-x) < ⊤) : ∃ r : ℝ, x = r := by
  induction x with
  | bot => simp at h
  | top => simp at h
  | coe r => exact ⟨r, rfl⟩

theorem logit_real (X : FVec Ideal S32768x512 .f32) (ids : IVec S32768 32) (K Q : FVec Ideal S512x128 .f32)
    (b : FVec Ideal S512 .f32) (h : fn X ids K Q b = fun _ => 1#1) (t : Fin 32768) :
    ∃ r : ℝ, Tokens.logit (fun t l => X (ix2 t l)) (fun l k => K (ix2 l k)) (fun l k => Q (ix2 l k)) t = r := by
  have e := congrFun h (ix1 t)
  unfold fn at e
  pointwise at e
  rw [Softmax.pos_inf, WordCmp.ofBool_decide_eq_one_iff] at e
  exact real_of_abs_lt e

end Cert.Pre_finite_logits

end
-- ==== Proof.Equation.lean ====
/- The two programs' results are the same array: each is, at segment `s` and column `f`, what the segment pools. -/
module

public import proofs.«01_k».proof.Proof.State
public import proofs.«01_k».proof.Proof.Reference
public import proofs.«01_k».proof.Proof.Finite

@[expose] public section

set_option maxRecDepth 16384

noncomputable section

namespace Cert.Equation

open Idealize.ShloMosaic Idealize.ShloMosaic.TcCoe

section

open Cert.KernelIdeal

variable (m : (ℓ : Loc nD τ sig) → Buf (Elt Ideal) ℓ) (c : Dev nD)

/-- Under the precondition the kernel's array is the reference's vectors over the kernel's arguments. -/
theorem result_eq (hpre : Pre_KernelIdeal_finite_logits m) :
    ReferenceIdeal.Reference.result (m (c.tc.loc main_arg1))
      (ReferenceIdeal.Reference.logits (m (c.tc.loc main_arg0)) (m (c.tc.loc main_arg2)) (m (c.tc.loc main_arg3)))
      (m (c.tc.loc main_arg0)) (m (c.tc.loc main_arg4))
      = Value.G4 m c := by
  funext i
  obtain ⟨s, f, rfl⟩ : ∃ (s : Fin 16) (f : Fin 512), i = ix2 s f :=
    ⟨i 0, i 1, by funext a; match a with | ⟨0, _⟩ => rfl | ⟨1, _⟩ => rfl⟩
  rw [State.output m c (Pre_finite_logits.logit_real _ _ _ _ _ (hpre c)) s f]
  refine (ReferenceIdeal.Reference.result_at _ _ s _ _ f).trans ?_
  simp only [ReferenceIdeal.Reference.logits_at]
  rfl

end

end Cert.Equation

end
-- ==== Proof.lean ====
/- The claims put together: the frames are the generated runs, and the value claim is the two generated runs with the
   equation of `Proof/Equation.lean` between their results. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal_pre_finite_logits := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  obtain ⟨e0, e1, e2, e3, e4⟩ := hagree c
  refine ((h c).1.trans (Cert.ReferenceIdeal.Reference.res_eq m' c)).trans ?_
  rw [e0, e1, e2, e3, e4]
  exact Cert.Equation.result_eq m c hpre

theorem claim : Cert.Claim :=
  ⟨Cert.Kernel.Gen.facts, Cert.KernelIdeal.Gen.facts, Cert.ReferenceIdeal.Gen.facts, Cert.Pre_finite_logits.facts,
    fun m ρ _ => Cert.Kernel.Gen.frame m ρ, fun m ρ _ => Cert.KernelIdeal.Gen.frame m ρ,
    fun m ρ _ => Cert.KernelIdeal.Gen.frame m ρ, quiescent_ReferenceIdeal,
    fun m ρ _ => quiescent_ReferenceIdeal m ρ trivial, (trivial : preserves_Kernel_KernelIdeal),
    algebraic_KernelIdeal_ReferenceIdeal⟩

end Cert.Proof

end
